-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S2x8192x256 : Shape := ⟨3, ![2, 8192, 256]⟩
abbrev S2 : Shape := ⟨1, ![2]⟩
abbrev S1 : Shape := ⟨1, ![1]⟩
abbrev S_ : Shape := ⟨0, ![]⟩
abbrev S1x8192x256 : Shape := ⟨3, ![1, 8192, 256]⟩
abbrev S8192x256 : Shape := ⟨2, ![8192, 256]⟩

abbrev nBuf : Space → Nat
  | .hbm => 6
  | .vmem => 4
  | .smem => 0
  | _ => 0

abbrev bufTy : (tb : Table) → Fin (tcTables nBuf tb) → BufTy
  | .hbm, ⟨0, _⟩ => ⟨S16384, .i32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S16384x256, .f32⟩
  | .local _ .vmem, ⟨0, _⟩ => ⟨S256x256, .f32⟩
  | .local _ .vmem, ⟨1, _⟩ => ⟨S1x256, .f32⟩
  | .local _ .vmem, ⟨2, _⟩ => ⟨S2x8192x256, .f32⟩
  | .local _ .vmem, ⟨3, _⟩ => ⟨S2x8192x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384 : Shape := ⟨1, ![16384]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S16384x256, .f32⟩
  | .hbm, ⟨6, _⟩ => ⟨S1x256, .f32⟩
  | .hbm, ⟨7, _⟩ => ⟨S16384x256, .f32⟩
  | .hbm, ⟨8, _⟩ => ⟨S16384x256, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Linear.Chunk.lean ====
/-
  What one chunk of the kernel computes. The kernel treats the 16384 rows of its operand in two chunks of 8192 rows.
  For each it multiplies the rows by the transposed weight matrix and adds the bias row. Nothing here mentions a
  buffer or a transfer: only the value of a chunk as a function of the rows, the weights and the bias.
-/
module

public import proofs.«01_k».proof.Proof.Gen.KernelIdeal.Skeleton
public import Idealize.ShloMosaic.Lib.Pipeline.FrameBody
public import Idealize.ShloMosaic.Lib.Pipeline.Value

@[expose] public section

noncomputable section

namespace Cert.KernelIdeal.Linear

open Idealize.ShloMosaic
open Cert.KernelIdeal.Gen

variable {F : FTy → Type} [FloatOps F]

/-- The linear map of one chunk: `rows · Wᵀ + b`, the product accumulated from zero and the bias row repeated down
    the chunk. -/
def linear (rows : Vec F S8192x256 .f32) (W : Vec F S256x256 .f32) (b : Vec F S1x256 .f32) : Vec F S8192x256 .f32 :=
  addf (matmul dot_S8192x256_S256x256_S8192x256_1_1_0_0_n_n none rows W (constant S8192x256 .f32 0x00000000#32))
    (broadcastTo S8192x256 (shapeCast S1x256 b shapeCasts_S1x256_S1x256) broadcasts_S1x256_S8192x256)

/-- The first chunk's store, read without the leading unit axis, is the linear map of the rows loaded. -/
theorem shapeCast_pay1 (rows : Vec F S8192x256 .f32) (W : Vec F S256x256 .f32) (b : Vec F S1x256 .f32) :
    shapeCast S8192x256 (k0_pay1 (shapeCast S1x8192x256 rows shapeCasts_S8192x256_S1x8192x256) W b) shapeCasts_S1x8192x256_S8192x256
      = linear rows W b := by
  unfold k0_pay1 linear
  simp only [shapeCast_shapeCast]

/-- Both chunks store the same function of what they load. -/
theorem pay2_eq_pay1 (v : Vec F S1x8192x256 .f32) (W : Vec F S256x256 .f32) (b : Vec F S1x256 .f32) :
    k0_pay2 v W b = k0_pay1 v W b := rfl

/-! ## The chunks of an array -/

/-- Chunk `k` of the 16384-row array: the 8192 rows from row `8192 * k`. -/
def band (k : Fin 2) : Rect S16384x256 :=
  Rect.unit ![8192 * k.val, 0] S8192x256.size (by revert k; decide)

/-- Slot `k` of the two-slot scratch. -/
def slot (k : Fin 2) : Rect S2x8192x256 :=
  Rect.unit ![k.val, 0, 0] S1x8192x256.size (by revert k; decide)

/-- The rows of chunk `k`. -/
def rowsOf (k : Fin 2) (x : Vec F S16384x256 .f32) : Vec F S8192x256 .f32 := fun i => x ((band k).emb i)

/-- The chunk a row lies in. -/
def chunkOf (j : S16384x256.Idx) : Fin 2 := ⟨(j 0).val / 8192, by have : (j 0).val < 16384 := (j 0).isLt; omega⟩

/-- The place of a row of the array within its chunk. -/
def within (j : S16384x256.Idx) : S8192x256.Idx := fun
  | ⟨0, _⟩ => ⟨(j 0).val % 8192, Nat.mod_lt _ (by decide)⟩
  | ⟨1, _⟩ => ⟨(j 1).val, (j 1).isLt⟩

/-- The array the kernel is to leave: each row from the linear map of its own chunk. -/
def result (x : Vec F S16384x256 .f32) (W : Vec F S256x256 .f32) (b : Vec F S1x256 .f32) : Vec F S16384x256 .f32 :=
  fun j => linear (rowsOf (chunkOf j) x) W b (within j)

/-- The row of a place of chunk `k`. -/
theorem band_emb_zero (k : Fin 2) (i : S8192x256.Idx) : ((band k).emb i 0).val = 8192 * k.val + 1 * (i 0).val := rfl

/-- Its column. -/
theorem band_emb_one (k : Fin 2) (i : S8192x256.Idx) : ((band k).emb i 1).val = 0 + 1 * (i 1).val := rfl

/-- A place of chunk `k` lies in chunk `k`. -/
theorem chunkOf_emb (k : Fin 2) (i : S8192x256.Idx) : chunkOf ((band k).emb i) = k := by
  have hi : (i 0).val < 8192 := (i 0).isLt
  refine Fin.ext ?_
  show ((band k).emb i 0).val / 8192 = k.val
  rw [band_emb_zero]; omega

/-- Its place within the chunk is the place it was taken at. -/
theorem within_emb (k : Fin 2) (i : S8192x256.Idx) : within ((band k).emb i) = i := by
  have hi : (i 0).val < 8192 := (i 0).isLt
  funext a
  match a with
  | ⟨0, _⟩ =>
    refine Fin.ext ?_
    show ((band k).emb i 0).val % 8192 = (i 0).val
    rw [band_emb_zero]; omega
  | ⟨1, _⟩ =>
    refine Fin.ext ?_
    show ((band k).emb i 1).val = (i 1).val
    rw [band_emb_one]; omega

/-- Every place is that of its chunk at its place within it. -/
theorem emb_within (j : S16384x256.Idx) : (band (chunkOf j)).emb (within j) = j := by
  have hj : (j 0).val < 16384 := (j 0).isLt
  funext a
  match a with
  | ⟨0, _⟩ =>
    refine Fin.ext ?_
    show 8192 * ((j 0).val / 8192) + 1 * ((j 0).val % 8192) = (j 0).val
    omega
  | ⟨1, _⟩ =>
    refine Fin.ext ?_
    show 0 + 1 * (j 1).val = (j 1).val
    omega

/-- On chunk `k`, the array is the linear map of chunk `k`. -/
theorem result_emb (x : Vec F S16384x256 .f32) (W : Vec F S256x256 .f32) (b : Vec F S1x256 .f32) (k : Fin 2) (i : S8192x256.Idx) :
    result x W b ((band k).emb i) = linear (rowsOf k x) W b i := by
  unfold result
  rw [chunkOf_emb, within_emb]

end Cert.KernelIdeal.Linear

end
-- ==== Proof.Linear.Contents.lean ====
/-
  What the buffers hold. The operand's chunks arrive in the two slots of one scratch buffer, the chunks computed leave
  from the two slots of another; the result array is what the two outgoing transfers write. Each fact is stated once
  for both slots, and none depends on what a scratch buffer or the result array held before.
-/
module

public import proofs.«01_k».proof.Proof.Linear.Chunk
public import Idealize.ShloMosaic.Lib.Writes
public import Idealize.ShloMosaic.Lib.WholeRead

@[expose] public section

noncomputable section

namespace Cert.KernelIdeal.Linear

open Idealize.ShloMosaic
open Cert.KernelIdeal.Gen

variable {F : FTy → Type} [FloatOps F]

/-- The two-slot scratch the operand's chunks arrive in. -/
abbrev xbuf : Memref sig .tc .vmem S2x8192x256 .f32 := Memref.whole cc0_scratch0
/-- The two-slot scratch the chunks of the result leave from. -/
abbrev obuf : Memref sig .tc .vmem S2x8192x256 .f32 := Memref.whole cc0_scratch1
/-- The operand. -/
abbrev xhbm : Memref sig .tc .hbm S16384x256 .f32 := Memref.whole main_arg1
/-- The result. -/
abbrev ohbm : Memref sig .tc .hbm S16384x256 .f32 := Memref.whole main_v1

/-- A slot of a two-slot scratch, its unit axis dropped: what a transfer takes. -/
abbrev slotOf (M : Memref sig .tc .vmem S2x8192x256 .f32) (k : Fin 2) : Memref sig .tc .vmem S8192x256 .f32 :=
  (M.slice (slot k) (fun _ => rfl)).squeeze S8192x256 squeezes_S1x8192x256_S8192x256

variable (M : Memref sig .tc .vmem S2x8192x256 .f32)

/-- A transfer into a slot is a write through the slot's rectangle, its payload with the unit axis put back. -/
theorem write_slot (k : Fin 2) (f : M.view.ty.Contents (Elt F)) (d : Vec F S8192x256 .f32) :
    (slotOf M k).view.write (Elt F) f d Finset.univ
      = M.view.writes (Elt F) f [⟨slot k, shapeCast S1x8192x256 d shapeCasts_S8192x256_S1x8192x256⟩] := by
  refine (View.write_reshape_univ (M.view.slice (slot k)) _ f d).trans ?_
  rw [Shape.reshapeEquiv_symm]
  rfl

/-- The slots are disjoint: a place of one is no place of the other. -/
theorem slot_not_mem {k l : Fin 2} (h : k ≠ l) (i : S1x8192x256.Idx) : (slot k).emb i ∉ (slot l).set := by
  have h' : k.val ≠ l.val := fun e => h (Fin.ext e)
  have hi : (i 0).val < 1 := (i 0).isLt
  have e : ((slot k).emb i 0).val = k.val + 1 * (i 0).val := rfl
  exact Rect.not_mem_set_of_axis (slot l) _ 0 l.val 1 rfl rfl rfl (by omega)

/-- A slot just written is read back. -/
theorem readAt_slot_newest (k : Fin 2) (f : M.view.ty.Contents (Elt F)) (w : Vec F S1x8192x256 .f32)
    (L : List (View.Piece (Elt F) S2x8192x256 .f32)) :
    M.view.readAt (Elt F) (slot k).toLoadRect (M.view.writes (Elt F) f (⟨slot k, w⟩ :: L)) = w :=
  funext fun i => View.read_writes_cons_emb M.view f (slot k) w L i

/-- A write to the other slot leaves a slot as it was. -/
theorem readAt_slot_other {k l : Fin 2} (h : k ≠ l) (f : M.view.ty.Contents (Elt F)) (w : Vec F S1x8192x256 .f32)
    (L : List (View.Piece (Elt F) S2x8192x256 .f32)) :
    M.view.readAt (Elt F) (slot k).toLoadRect (M.view.writes (Elt F) f (⟨slot l, w⟩ :: L))
      = M.view.readAt (Elt F) (slot k).toLoadRect (M.view.writes (Elt F) f L) :=
  funext fun i => View.read_writes_cons_miss M.view f ⟨slot l, w⟩ L _ (slot_not_mem h i)

/-- Both slots filled by a transfer each, slot `k` is loaded as the chunk sent to it. -/
theorem load_slot (k : Fin 2) (f : M.view.ty.Contents (Elt F)) (d : Fin 2 → Vec F S8192x256 .f32) :
    M.view.readAt (Elt F) (slot k).toLoadRect
        ((slotOf M 1).view.write (Elt F) ((slotOf M 0).view.write (Elt F) f (d 0) Finset.univ) (d 1) Finset.univ)
      = shapeCast S1x8192x256 (d k) shapeCasts_S8192x256_S1x8192x256 := by
  rw [write_slot, write_slot]
  by_cases hk : k = 1
  · subst hk
    exact readAt_slot_newest M 1 _ _ []
  · obtain rfl : k = 0 := by omega
    rw [readAt_slot_other M hk, View.writes_nil, readAt_slot_newest]

/-- A slot just stored to is sent out as the store's payload, its unit axis dropped. -/
theorem sent_slot (k : Fin 2) (f : M.view.ty.Contents (Elt F)) (w : Vec F S1x8192x256 .f32)
    (L : List (View.Piece (Elt F) S2x8192x256 .f32)) :
    (slotOf M k).view.read (Elt F) (M.view.writes (Elt F) f (⟨slot k, w⟩ :: L))
      = shapeCast S8192x256 w shapeCasts_S1x8192x256_S8192x256 := by
  rw [Memref.read_squeeze_slice M (slot k) (fun _ => rfl) squeezes_S1x8192x256_S8192x256 shapeCasts_S1x8192x256_S8192x256,
    readAt_slot_newest]
  rfl

/-- Every place of the result array is written by the transfer of its chunk. -/
theorem mem_band (j : S16384x256.Idx) : j ∈ (band (chunkOf j)).set := by
  rw [← Rect.map_emb_univ]
  exact Finset.mem_map.mpr ⟨within j, Finset.mem_univ _, emb_within j⟩

/-- The result array after the transfers of the two chunks, the linear map of chunk `k` sent to chunk `k`: the whole
    array, whatever it held. -/
theorem writes_bands (x : Vec F S16384x256 .f32) (W : Vec F S256x256 .f32) (b : Vec F S1x256 .f32) (fo : ohbm.view.ty.Contents (Elt F)) :
    ohbm.view.writes (Elt F) fo [⟨band 1, linear (rowsOf 1 x) W b⟩, ⟨band 0, linear (rowsOf 0 x) W b⟩] = result x W b := by
  refine (View.read_whole (Val := Elt F) main_v1 _).symm.trans (funext fun j => ?_)
  refine View.read_writes_apply_of_pieces ohbm.view fo (result x W b) _ ?_ j ?_
  · intro p hp
    rcases List.mem_cons.mp hp with rfl | hp
    · exact fun i => (result_emb x W b 1 i).symm
    rcases List.mem_cons.mp hp with rfl | hp
    · exact fun i => (result_emb x W b 0 i).symm
    exact absurd hp List.not_mem_nil
  · by_cases hk : chunkOf j = 1
    · exact ⟨_, List.mem_cons_self, hk ▸ mem_band j⟩
    · have hk : chunkOf j = 0 := by omega
      exact ⟨_, List.mem_cons_of_mem _ List.mem_cons_self, hk ▸ mem_band j⟩

/-- A whole window loaded whole is its contents. -/
theorem load_whole {S : Shape} {e : EltTy} {A : Memref sig .tc .vmem S e} (hA : A.IsWhole) (x : Vec F S e)
    {off : Fin S.rank → ℕ} (h0 : ∀ a, off a = 0) (inb : ∀ a, off a + S.size a ≤ S.size a) :
    A.view.readAt (Elt F) (Rect.unit off S.size inb).toLoadRect (hA.unread x) = x := by
  funext i
  rw [hA.readAt_unread]
  refine congrArg x (funext fun a => Fin.ext ?_)
  show off a + 1 * (i a).val = (i a).val
  rw [h0]; omega

/-! ## From the operand to the result -/

/-- The rows of chunk `k` as a transfer reads them off the operand. -/
abbrev arriving (fx : xhbm.view.ty.Contents (Elt F)) (k : Fin 2) : Vec F S8192x256 .f32 :=
  ReadAs.same.apply ((xhbm.slice (band k) (fun _ => rfl)).view.read (Elt F) fx)

/-- The operand's scratch once both chunks have arrived. -/
abbrev arrived (fx : xhbm.view.ty.Contents (Elt F)) (fs : xbuf.view.ty.Contents (Elt F)) : xbuf.view.ty.Contents (Elt F) :=
  (slotOf xbuf 1).view.write (Elt F) ((slotOf xbuf 0).view.write (Elt F) fs (arriving fx 0) Finset.univ) (arriving fx 1) Finset.univ

/-- What is stored for chunk `k`, computed from what is loaded: slot `k` of the operand's scratch and the two windows. -/
abbrev stored {A : Memref sig .tc .vmem S256x256 .f32} (hA : A.IsWhole) {B : Memref sig .tc .vmem S1x256 .f32} (hB : B.IsWhole)
    (fx : xhbm.view.ty.Contents (Elt F)) (fs : xbuf.view.ty.Contents (Elt F)) (W : Vec F S256x256 .f32) (b : Vec F S1x256 .f32) (k : Fin 2) :
    Vec F S1x8192x256 .f32 :=
  k0_pay1 (xbuf.view.readAt (Elt F) (slot k).toLoadRect (arrived fx fs))
    (A.view.readAt (Elt F) (Rect.unit ![0, 0] S256x256.size inb_S256x256_S256x256_0_0).toLoadRect (hA.unread W))
    (B.view.readAt (Elt F) (Rect.unit ![0, 0] S1x256.size inb_S1x256_S1x256_0_0).toLoadRect (hB.unread b))

/-- What the transfer out of slot `k` carries, the slot being the last stored to, is the linear map of chunk `k`. -/
theorem leaving_eq {A : Memref sig .tc .vmem S256x256 .f32} (hA : A.IsWhole) {B : Memref sig .tc .vmem S1x256 .f32} (hB : B.IsWhole)
    (fx : xhbm.view.ty.Contents (Elt F)) (fs : xbuf.view.ty.Contents (Elt F)) (fs' : obuf.view.ty.Contents (Elt F))
    (W : Vec F S256x256 .f32) (b : Vec F S1x256 .f32) (k : Fin 2) (L : List (View.Piece (Elt F) S2x8192x256 .f32)) :
    ReadAs.same.apply ((slotOf obuf k).view.read (Elt F) (obuf.view.writes (Elt F) fs' (⟨slot k, stored hA hB fx fs W b k⟩ :: L)))
      = linear (rowsOf k fx) W b := by
  refine (sent_slot obuf k fs' _ L).trans ?_
  unfold stored
  rw [load_slot xbuf k fs (arriving fx), load_whole hA W (by decide) inb_S256x256_S256x256_0_0,
    load_whole hB b (by decide) inb_S1x256_S1x256_0_0]
  exact shapeCast_pay1 (rowsOf k fx) W b

/-- The result array at the end of the kernel: whatever it and the scratch buffers held, it is the linear map of the
    operand, chunk by chunk. -/
theorem left_eq {A : Memref sig .tc .vmem S256x256 .f32} (hA : A.IsWhole) {B : Memref sig .tc .vmem S1x256 .f32} (hB : B.IsWhole)
    (fx : xhbm.view.ty.Contents (Elt F)) (fs : xbuf.view.ty.Contents (Elt F)) (fs' : obuf.view.ty.Contents (Elt F))
    (fo : ohbm.view.ty.Contents (Elt F)) (W : Vec F S256x256 .f32) (b : Vec F S1x256 .f32) :
    ohbm.view.writes (Elt F) fo
        [⟨band 1, ReadAs.same.apply ((slotOf obuf 1).view.read (Elt F)
            (obuf.view.writes (Elt F) fs' [⟨slot 1, stored hA hB fx fs W b 1⟩, ⟨slot 0, stored hA hB fx fs W b 0⟩]))⟩,
         ⟨band 0, ReadAs.same.apply ((slotOf obuf 0).view.read (Elt F)
            (obuf.view.writes (Elt F) fs' [⟨slot 0, stored hA hB fx fs W b 0⟩]))⟩]
      = result fx W b := by
  rw [leaving_eq hA hB fx fs fs' W b 1, leaving_eq hA hB fx fs fs' W b 0]
  exact writes_bands fx W b fo

end Cert.KernelIdeal.Linear

end
-- ==== Proof.Linear.Body.lean ====
/-
  The kernel's body, run once: from the two windows, the operand, the result array, the scratch buffers and the four
  transfer counters at zero, to the same with the result array at the linear map of the operand.
-/
module

public import proofs.«01_k».proof.Proof.Linear.Contents
public import proofs.«01_k».proof.Proof.Gen.KernelIdeal.Launch
public import proofs.«01_k».proof.Proof.Gen.KernelIdeal.Points
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Linear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The contents of the buffer a memref views, on device `c`. -/
abbrev BufAt (c : Dev nD) {sp : Space} {S : Shape} {e : EltTy} (M : Memref sig .tc sp S e) : Type :=
  Buf (Elt F) (M.view.loc (c : Thread nD τ))

/-- Device `c` has the buffer `M` views, at contents `f`. -/
abbrev holdsAt (c : Dev nD) {sp : Space} {S : Shape} {e : EltTy} (M : Memref sig .tc sp S e) (f : BufAt (F := F) c M) : sProp 𝕄 :=
  M.view.loc (c : Thread nD τ) ↦{fullShare} f

/-- The kernel's transfer counters: two for the chunks arriving, two for those leaving, each at zero. -/
abbrev idle (c : Dev nD) : sProp 𝕄 :=
  iprop(semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0)

set_option maxHeartbeats 1000000 in set_option sl_exec.dmaWindow true in set_option sl_exec.dmaWindowSet true in
/-- The body run on windows holding the weights `W` and the bias `b`, and the operand at `fx`: it ends with them as
    they were, the counters at zero again, and the result array at the linear map of `fx`, whatever the scratch
    buffers and the result array held. -/
theorem body_run (c : Dev nD) (A : Memref sig .tc .vmem S256x256 .f32) (hA : A.IsWhole) (B : Memref sig .tc .vmem S1x256 .f32) (hB : B.IsWhole)
    (W : Vec F S256x256 .f32) (b : Vec F S1x256 .f32) (fx : BufAt (F := F) c xhbm) (fs : BufAt (F := F) c xbuf) (fs' : BufAt (F := F) c obuf)
    (fo : BufAt (F := F) c ohbm) (ow : Waits sig Unit) (K : PUnit → sProp 𝕄) :
    iprop(owns (c : Thread nD τ) A fullShare W ∗ owns (c : Thread nD τ) B fullShare b ∗ holdsAt c xbuf fs ∗ holdsAt c obuf fs'
        ∗ idle c ∗ holdsAt c xhbm fx ∗ holdsAt c ohbm fo ∗ owes (c : Thread nD τ) 0 ow
        ∗ (owns (c : Thread nD τ) A fullShare W ∗ owns (c : Thread nD τ) B fullShare b ∗ (∃ f, holdsAt c xbuf f) ∗ (∃ f, holdsAt c obuf f)
            ∗ idle c ∗ holdsAt c xhbm fx ∗ holdsAt c ohbm (result fx W b) ∗ (∃ ow', owes (c : Thread nD τ) 0 ow') -∗ K ⟨⟩))
      ⊢ wp frame (wpE (defs₀ (F := F)) Variants.none c none) Set.univ
          (cc0__linear_dma_kernel xhbm (Memref.isWhole_whole _) A hA B hB ohbm (Memref.isWhole_whole _) xbuf (Memref.isWhole_whole _) obuf
            (Memref.isWhole_whole _) cc0_scratch2 cc0_scratch3) K := by
  simp only [cc0__linear_dma_kernel_eq_skeleton]; unfold cc0__linear_dma_kernel_skel
  simp only [k0_part1_eq_skeleton, k0_part2_eq_skeleton]
  unfold owns
  iintro ⟨⟨%f0, %hf0, H0⟩, ⟨%f1, %hf1, H1⟩, HS0, HS1, ⟨Hq0, Hq1, Hq2, Hq3⟩, Hx, Ho, HW, HK⟩
  obtain rfl := hA.eq_unread hf0; obtain rfl := hB.eq_unread hf1
  sl_exec
  sl_step
  iapply HK
  isplitl [H0]
  · iexists (hA.unread W); isplitr; · ipureintro; exact hf0
    iexact H0
  isplitl [H1]
  · iexists (hB.unread b); isplitr; · ipureintro; exact hf1
    iexact H1
  isplitl [HS0]; · iexists _; iexact HS0
  isplitl [HS1]; · iexists _; iexact HS1
  isplitl [Hq0 Hq1 Hq2 Hq3]
  · isplitl [Hq0]; · iexact Hq0
    isplitl [Hq1]; · iexact Hq1
    isplitl [Hq2]; · iexact Hq2
    iexact Hq3
  isplitl [Hx]; · iexact Hx
  isplitl [Ho]
  · rw [← left_eq hA hB fx fs fs' fo W b]
    iexact Ho
  iexists _; iexact HW

end Cert.KernelIdeal.Linear

end
-- ==== Proof.Linear.Launch.lean ====
/-
  The launch: what the kernel is given and gives back, its proof data, and the run of the whole program. Nothing is
  assumed of the memory; the counters start at zero and end at zero.
-/
module

public import proofs.«01_k».proof.Proof.Linear.Body
public import proofs.«01_k».proof.Proof.Gen.KernelIdeal.Frame
public import Idealize.ShloMosaic.Lib.Claim

@[expose] public section

set_option maxRecDepth 16384

noncomputable section

namespace Cert.KernelIdeal.Linear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds beside its windows -/

/-- The kernel's own transfer counters. -/
abbrev counters : Fin 4 → SemLoc sig := fun j => (![SemLoc.dma 2, SemLoc.dma 3, SemLoc.dma 4, SemLoc.dma 5] : Fin 4 → SemLoc sig) j

/-- They are scoped, distinct, and none is a window's. -/
theorem counters_own : Pipeline.OwnSemFacts spec0 counters := by decide

/-- The array it copies from and leaves as it was: the operand. -/
def readArrays : Finset (Ref sig .tc) := {main_arg1}

/-- It is no window's array. -/
theorem readArrays_sub : readArrays ⊆ Pipeline.restRefs sig spec0 := by decide

/-- The array it copies to: the result. -/
def writtenArrays : Finset (Ref sig .tc) := {main_v1}

/-- It is neither a window's array nor the operand. -/
theorem writtenArrays_sub : writtenArrays ⊆ Pipeline.restRefs sig spec0 \ readArrays := by decide

/-- The program's arrays when the kernel returns: the result at the linear map, the rest as the kernel found them. -/
def final (c : Dev nD) : (b : Ref sig .tc) → Buf (Elt F) ((c : Thread nD τ).loc b) :=
  Function.update (V m c) main_v1 (result (V m c main_arg1) (iblk m c 0 t0_0) (iblk m c 1 t0_0))

/-- The result array among them. -/
theorem final_result (c : Dev nD) :
    final m c main_v1 = result (V m c main_arg1) (iblk m c 0 t0_0) (iblk m c 1 t0_0) := Function.update_self ..

/-- The kernel's holdings, one by one, the written array at contents `G`: the two scratch buffers at any contents, the
    generator register, the counters at zero, the operand as found, the result array at `G`. -/
theorem holdings_eq (G : (c : Dev nD) → (b : Ref sig .tc) → Buf (Elt F) ((c : Thread nD τ).loc b)) (c : Dev nD) :
    (Pipeline.ΦDRG counters spec0 readArrays writtenArrays (V m) G c : sProp 𝕄)
      = iprop(((∃ f, holdsAt c xbuf f) ∗ (∃ f, holdsAt c obuf f)) ∗ (∃ r, prngReg c r) ∗ idle c
          ∗ holdsAt c xhbm (V m c main_arg1) ∗ holdsAt c ohbm (G c main_v1)) := by
  have hs : (Pipeline.ownSems0 (Ix := Unit) (Name := ℕ) (U := Pipeline.UD sig nD τ) (Lvl := ℕ) (Val := Elt F) (τ := τ) counters c : sProp 𝕄)
      = idle c := Pipeline.ownSems0_eq_of_list c counters [0, 1, 2, 3] (by decide) (by decide)
  have hr : (bigSep readArrays (fun b => ((c : Thread nD τ).loc b) ↦{fullShare} V m c b) : sProp 𝕄)
      = holdsAt c xhbm (V m c main_arg1) := BI.bigSep_singleton ..
  have hw : (Pipeline.routed writtenArrays c (G c) : sProp 𝕄) = holdsAt c ohbm (G c main_v1) :=
    Pipeline.routed_singleton main_v1 c (G c)
  rw [Pipeline.ΦDRG_eq, scopedRest0_eq, hs, hr, hw]

/-! ## The proof data -/

/-- The written array before the kernel's one point is as found, after it at its final contents. -/
def during (i : ℕ) : (c : Dev nD) → (b : Ref sig .tc) → Buf (Elt F) ((c : Thread nD τ).loc b) :=
  if i = 0 then V m else final m

/-- The proof data on device `c`: the windows' arrays as found, each window left as it was, the holdings beside them,
    nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG counters spec0 readArrays writtenArrays (V m) (during m t.val) c
  q _ := fullShare
  owed _ := 0

/-- Each window's array is as the kernel found it. -/
theorem A_eq (c : Dev nD) (w : Fin cfg0.W) : (dats m 0 c).A w = V m c (Pipeline.arrRef spec0 w) := by
  dsimp only [dats]

/-- The weights' window after the body is its block. -/
theorem after_weights (c : Dev nD) (t : Fin cfg0.N) : (dats m 0 c).after 0 t = iblk m c 0 t := by dsimp only [dats]

/-- The bias's window after the body is its block. -/
theorem after_bias (c : Dev nD) (t : Fin cfg0.N) : (dats m 0 c).after 1 t = iblk m c 1 t := by dsimp only [dats]

/-- The weights' window holds its block when the body starts. -/
theorem before_weights (c : Dev nD) (t : Fin cfg0.N) (d) : (dats m 0 c).before 0 t d = iblk m c 0 t := by
  refine ((dats m 0 c).before_in_eq_fetched 0 rfl (fun _ => rfl) (fun _ _ _ => rfl) (fun t => ?_) t d).trans ?_
  · rw [after_weights]; unfold Dat.blockOf iblk; rw [A_eq]
  · unfold Dat.fetched Dat.blockOf iblk; rw [A_eq]; rfl

/-- The bias's window holds its block when the body starts. -/
theorem before_bias (c : Dev nD) (t : Fin cfg0.N) (d) : (dats m 0 c).before 1 t d = iblk m c 1 t := by
  refine ((dats m 0 c).before_in_eq_fetched 1 rfl (fun _ => rfl) (fun _ _ _ => rfl) (fun t => ?_) t d).trans ?_
  · rw [after_bias]; unfold Dat.blockOf iblk; rw [A_eq]
  · unfold Dat.fetched Dat.blockOf iblk; rw [A_eq]; rfl

/-! ## The body at its point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- Before the point the written array is as found; -/
theorem holdings_before (c : Dev nD) :
    (dats m 0 c).Φ t0_0.castSucc = Pipeline.ΦDRG counters spec0 readArrays writtenArrays (V m) (V m) c := rfl

/-- after it, at its final contents. -/
theorem holdings_after (c : Dev nD) :
    (dats m 0 c).Φ t0_0.succ = Pipeline.ΦDRG counters spec0 readArrays writtenArrays (V m) (final m) c := rfl

/-- The body takes what it is called with to what it returns: the body's run, its holdings taken apart and put back. -/
theorem body_sound (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before_weights, before_bias]
  rw [after_weights, after_bias, holdings_before, holdings_after, holdings_eq, holdings_eq, final_result]
  unfold Dat.owesAt Pipeline.owesWithin
  rw [show (dats m 0 c).owed t0_0.castSucc = 0 from rfl, show (dats m 0 c).owed t0_0.succ = 0 from rfl]
  iintro ⟨⟨⟨⟨%fs, HS0⟩, ⟨%fs', HS1⟩⟩, Hg, Hq, Hx, Ho⟩, ⟨%ow, -, HW⟩, ⟨%d0, H0⟩, ⟨%d1, H1⟩⟩
  iapply (body_run c _ _ _ _ (iblk m c 0 t0_0) (iblk m c 1 t0_0) (V m c main_arg1) fs fs' (V m c main_v1) ow _)
  isplitl [H0]; · iexact H0
  isplitl [H1]; · iexact H1
  isplitl [HS0]; · iexact HS0
  isplitl [HS1]; · iexact HS1
  isplitl [Hq]; · iexact Hq
  isplitl [Hx]; · iexact Hx
  isplitl [Ho]; · iexact Ho
  isplitl [HW]; · iexact HW
  iintro ⟨H0, H1, HS0, HS1, Hq, Hx, Ho, ⟨%ow', HW⟩⟩
  isplitl [HS0 HS1 Hg Hq Hx Ho]
  · isplitl [HS0 HS1]
    · isplitl [HS0]; · iexact HS0
      iexact HS1
    isplitl [Hg]; · iexact Hg
    isplitl [Hq]; · iexact Hq
    isplitl [Hx]; · iexact Hx
    iexact Ho
  isplitl [HW]
  · iexists ow'; isplitr; · ipureintro; exact fun _ _ => Or.inl trivial
    iexact HW
  isplitl [H0]; · iexact H0
  iexact H1

/-- The kernel called at its point is its body at the windows' staging buffers. -/
theorem called_eq (t : Fin cfg0.N) : defs₀ (F := F) .tc cfg0.body (cfg0.bodyArgs t (cfg0.slots t)) = bodyAt0 t := by
  unfold defs₀; rw [Defs.onTc_tc]

/-- The body meets what the launch asks of it, on every device. -/
theorem body_obligation (c : Dev nD) : BodyObligation (dats (F := F) m 0 c) (defs₀ (F := F)) Variants.none () Set.univ := fun t => by
  rw [bigSep_W0, bigSep_W0, called_eq]
  exact triple_restated (body_sound m c t) rfl .rfl fun _ => .rfl

/-! ## The run -/

set_option maxHeartbeats 800000 in
/-- The program is its one host operation, then the kernel. -/
theorem main_entered : Pipeline.HMain (Ix := Unit) (Name := ℕ) (U := Pipeline.UD sig nD τ) (Lvl := ℕ) cfgs 0 defs₀ Variants.none m
    (main (F := F)) (V m) :=
  Pipeline.hmain_prefix cfgs 0 defs₀ Variants.none m main hostOps0 hostOps0_sub hostOps0_fresh main_chain

set_option backward.isDefEq.respectTransparency.types false in
/-- The program terminates; every array the kernel does not write is as it found it, the result is at its final
    contents, and every counter is at zero. -/
theorem run_raw : θ_run defs (onTc (τ := τ) (main (F := F))) (s₀ m ρ)
    (fun r => Pipeline.FramePostRG cfgs (dats m) 0 writtenArrays (V m) (final m) r ∧ r.2.sem = fun _ => 0) :=
  Pipeline.θ_run_frame_dmaRG (Q' := _) cfgs (dats m) (0 : Fin 1) launch0 counters defs₀ Variants.none counters_own readArrays writtenArrays
    readArrays_sub writtenArrays_sub m ρ main
    (hbody := fun c => (body_obligation m c).loose) (hshare := fun c => (dats m 0 c).share_full fun _ => rfl)
    (howed := fun _ _ => rfl) (V := V m) (hmain := main_entered m) (hA := A_eq m) (G := final m)
    (hin := fun _ => .rfl) (hout := fun _ => .rfl)

/-- An array the kernel neither stages nor writes ends as it was found. -/
theorem kept {r : PUnit × MemSt nD τ sig (Elt F)} (h : Pipeline.FramePostRG cfgs (dats m) 0 writtenArrays (V m) (final m) r) (c : Dev nD)
    (b : Ref sig .tc) (hb : b ∈ Pipeline.restRefs sig spec0 \ writtenArrays) : r.2.mem ((c.tc : Thread nD τ).loc b) = V m c b :=
  (h.toR c).2 b hb

/-- The program's run: the result is the linear map of the operand, of the weights and bias the windows hold, the
    arguments are as they were, and every counter is at zero. -/
theorem run : θ_run defs (onTc (τ := τ) (main (F := F))) ⟨m, fun _ => 0, ρ⟩ (fun r => (∀ c : Dev nD,
      r.2.mem ((c.tc : Thread nD τ).loc main_v1) = final m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.written c (Finset.mem_singleton_self _),
      (kept m h.1 c main_arg0 (by decide)).trans (V_main_arg0 m c),
      (kept m h.1 c main_arg1 (by decide)).trans (V_main_arg1 m c),
      ((h.1.toR c).1 0).trans (((dats m 0 c).arrAt_in 0 rfl _).trans ((A_eq m c 0).trans (V_main_arg2 m c))),
      (kept m h.1 c main_arg3 (by decide)).trans (V_main_arg3 m c)⟩, h.2⟩) (run_raw m ρ)

/-- The run, of the arguments and the counters only. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run m ρ)

end Cert.KernelIdeal.Linear

end
-- ==== Proof.Linear.Twin.lean ====
/-
  The kernel as printed and the idealized kernel are one text: no operation was rewritten. So their tables of bodies
  are equal for any float values, and the run proved of the one, for any float values, is the run of the other.
-/
module

public import proofs.«01_k».proof.Proof.Gen.Kernel
public import proofs.«01_k».proof.Proof.Linear.Launch

@[expose] public section

noncomputable section

namespace Cert.Linear

open Idealize.ShloMosaic Idealize.ShloMosaic.TcCoe Idealize.SL.Sem
open Cert.Kernel Cert.Kernel.Gen Cert.KernelIdeal.Gen

variable {F : FTy → Type} [FloatOps F]

/-- The two programs call the same kernel body, at their one label. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- With the pipeline around it, the same table. -/
theorem tables_eq : Cert.Kernel.defs (F := F) = Cert.KernelIdeal.defs (F := F) :=
  congrArg (Pipeline.defs (Cert.KernelIdeal.pcfgs (F := F))) bodies_eq

/-- The printed kernel's run: the arguments are as they were, and every counter is at zero. -/
theorem printed_run (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [tables_eq]
  exact Cert.KernelIdeal.Linear.run_frame m ρ

end Cert.Linear

end
-- ==== Proof.Linear.Reference.lean ====
/-
  What the reference computes: at row `r` and column `l`, the sum over `k` of `x r k * W l k`, plus `b l`; and that its
  run leaves this in the result, the arguments and the counters as they were.
-/
module

public import proofs.«01_k».proof.Proof.Gen.ReferenceIdeal.Run
public import Idealize.ShloMosaic.Lib.Pointwise
public import Idealize.ShloMosaic.Lib.Claim
public import Idealize.ShloMosaic.Lib.Quiescent

@[expose] public section

noncomputable section

namespace Cert.Linear

open Idealize.ShloMosaic Idealize.ShloMosaic.TcCoe Idealize.SL.Sem
open Cert.ReferenceIdeal Cert.ReferenceIdeal.Gen

/-- The affine map `x · Wᵀ + b`, place by place. -/
def affine (x : FVec Ideal S16384x256 .f32) (W : FVec Ideal S256x256 .f32) (b : FVec Ideal S256 .f32) : FVec Ideal S16384x256 .f32 :=
  fun j => ((∑ k : Fin 256, x (ix2 (j 0) k) * W (ix2 (j 1) k) : EReal) + b (ix1 (j 1)) : EReal)

/-- The reference's expression is the affine map. -/
theorem reference_eq (x : FVec Ideal S16384x256 .f32) (W : FVec Ideal S256x256 .f32) (b : FVec Ideal S256 .f32) :
    addf (Host.dotGeneral dot_S16384x256_S256x256_S16384x256_1_0_0_1_n_n none x (transpose S256x256 [1, 0] W transposes_S256x256_S256x256_1_0))
        (broadcastInDim S16384x256 ![0, 1] bcast_S1x256_S16384x256_0_1 (broadcastInDim S1x256 ![1] bcast_S256_S1x256_1 b))
      = affine x W b := by
  funext j
  pointwise [affine]
  done

/-- The reference's run: the result is the affine map of the arguments, the arguments are as they were, and every
    counter is at zero. -/
theorem reference_run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v4)
        = affine (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c).1.trans (reference_eq _ _ _), (h c).2⟩, sem_eq_zero_of_no_sems (by decide) r.2⟩)
    (Cert.ReferenceIdeal.Value.run (F := Ideal) m ρ)

end Cert.Linear

end
-- ==== Proof.Linear.Equation.lean ====
/-
  The equation: what the kernel leaves in the result is the affine map of its arguments, place by place over the
  extended reals.
-/
module

public import proofs.«01_k».proof.Proof.Linear.Launch
public import proofs.«01_k».proof.Proof.Linear.Reference

@[expose] public section

noncomputable section

namespace Cert.KernelIdeal.Linear

open Idealize.ShloMosaic Idealize.ShloMosaic.TcCoe Idealize.SL.Sem
open Cert.KernelIdeal.Gen

/-- A chunk's linear map at a place: the sum along the row, plus the bias at the column. -/
theorem linear_apply (rows : FVec Ideal S8192x256 .f32) (W : FVec Ideal S256x256 .f32) (b : FVec Ideal S1x256 .f32) (i : S8192x256.Idx) :
    linear (F := Ideal) rows W b i = ((∑ k : Fin 256, rows (ix2 (i 0) k) * W (ix2 (i 1) k) : EReal) + b (ix2 0 (i 1)) : EReal) := by
  pointwise [linear]
  done

/-- A place of a chunk's row, seen in the array: the array's row, at the same column. -/
theorem rowsOf_within (x : FVec Ideal S16384x256 .f32) (j : S16384x256.Idx) (k : Fin 256) :
    rowsOf (F := Ideal) (chunkOf j) x (ix2 (within j 0) k) = x (ix2 (j 0) k) := by
  have h0 : ((band (chunkOf j)).emb (ix2 (within j 0) k) 0).val = (j 0).val :=
    (band_emb_zero _ _).trans ((band_emb_zero _ (within j)).symm.trans (by rw [emb_within]))
  have h1 : ((band (chunkOf j)).emb (ix2 (within j 0) k) 1).val = k.val := (band_emb_one _ _).trans (by simp)
  refine congrArg x (funext fun a => Fin.ext ?_)
  match a with
  | ⟨0, _⟩ => exact h0
  | ⟨1, _⟩ => exact h1

/-- The chunks together are the affine map of the whole array, the bias row being the bias as a row. -/
theorem result_eq (x : FVec Ideal S16384x256 .f32) (W : FVec Ideal S256x256 .f32) (b : FVec Ideal S256 .f32) :
    result (F := Ideal) x W (shapeCast S1x256 b shapeCasts_S256_S1x256) = Cert.Linear.affine x W b := by
  funext j
  unfold result
  rw [linear_apply]
  simp only [rowsOf_within]
  pointwise [Cert.Linear.affine]
  rfl

variable (m : (ℓ : Loc nD τ sig) → Buf (Elt Ideal) ℓ) (ρ : Dev nD → PrngReg)

/-- The weights' window is the weights whole. -/
theorem weights_block (c : Dev nD) : iblk m c 0 t0_0 = V m c main_arg2 := by
  funext i
  refine congrArg (V m c main_arg2) (funext fun a => Fin.ext ?_)
  match a with
  | ⟨0, _⟩ => show 0 * 256 + 1 * (i 0).val = (i 0).val; omega
  | ⟨1, _⟩ => show 0 * 256 + 1 * (i 1).val = (i 1).val; omega

/-- The bias's window is the bias row whole. -/
theorem bias_block (c : Dev nD) : iblk m c 1 t0_0 = V m c main_v0 := by
  funext i
  refine congrArg (V m c main_v0) (funext fun a => Fin.ext ?_)
  match a with
  | ⟨0, _⟩ => show 0 * 1 + 1 * (i 0).val = (i 0).val; omega
  | ⟨1, _⟩ => show 0 * 256 + 1 * (i 1).val = (i 1).val; omega

/-- The bias row is the bias, as a row. -/
theorem bias_row (c : Dev nD) :
    V m c main_v0 = shapeCast S1x256 (m ((c : Thread nD τ).loc main_arg3)) shapeCasts_S256_S1x256 := rfl

/-- The result at the kernel's end is the affine map of the arguments. -/
theorem final_eq (c : Dev nD) :
    final m c main_v1 = Cert.Linear.affine (m ((c.tc : Thread nD τ).loc main_arg1)) (m ((c.tc : Thread nD τ).loc main_arg2))
      (m ((c.tc : Thread nD τ).loc main_arg3)) := by
  rw [final_result, weights_block, bias_block, bias_row, V_main_arg1, V_main_arg2]
  exact result_eq _ _ _

end Cert.KernelIdeal.Linear

end
-- ==== Proof.lean ====
/-
  The proof of `Cert.Claim`: the kernel as printed, the idealized kernel and the reference each run, leave their
  arguments and every counter as they were, and the idealized kernel and the reference end with equal results.
-/
module

public import proofs.«01_k».proof.Defs
public import proofs.«01_k».proof.Proof.Linear.Twin
public import proofs.«01_k».proof.Proof.Linear.Equation

@[expose] public section

noncomputable section

namespace Cert.Proof

open Idealize.ShloMosaic Idealize.ShloMosaic.TcCoe Idealize.SL.Sem

/-- The printed kernel's frame, at the hardware's floats. -/
theorem frame_kernel : Cert.quiescent_Kernel (hKernel := Cert.Kernel.Gen.facts) :=
  fun m ρ _ => Cert.Linear.printed_run (F := Bits) m ρ

/-- The idealized kernel's frame. -/
theorem frame_kernelIdeal : Cert.quiescent_KernelIdeal (hKernelIdeal := Cert.KernelIdeal.Gen.facts) :=
  fun m ρ _ => Cert.KernelIdeal.Linear.run_frame (F := Ideal) m ρ

/-- The reference's frame. -/
theorem frame_reference : Cert.quiescent_ReferenceIdeal (hReferenceIdeal := Cert.ReferenceIdeal.Gen.facts) :=
  fun m ρ _ => θ_run_mono (Cert.Linear.reference_run m ρ) fun _ h => ⟨fun c => (h.1 c).2, h.2⟩

/-- The kernel and the reference end with one result: the affine map of the arguments they share. -/
theorem equal_results : Cert.algebraic_KernelIdeal_ReferenceIdeal (hKernelIdeal := Cert.KernelIdeal.Gen.facts)
    (hReferenceIdeal := Cert.ReferenceIdeal.Gen.facts) := by
  intro m ρ m' ρ' _ hm
  refine ⟨fun c => Cert.Linear.affine (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · exact θ_run_mono (Cert.KernelIdeal.Linear.run m ρ) fun _ h c =>
      ⟨(h.1 c).1.trans (Cert.KernelIdeal.Linear.final_eq m c), (h.1 c).2⟩
  · refine θ_run_mono (Cert.Linear.reference_run m' ρ') fun _ h c => ⟨(h.1 c).1.trans ?_, (h.1 c).2⟩
    obtain ⟨-, h1, h2, h3⟩ := hm c
    rw [h1, h2, h3]

/-- Every claim. -/
theorem claim : Cert.Claim :=
  ⟨Cert.Kernel.Gen.facts, Cert.KernelIdeal.Gen.facts, Cert.ReferenceIdeal.Gen.facts,
    frame_kernel, frame_kernelIdeal, frame_reference, trivial, equal_results⟩

end Cert.Proof

end
